-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x512, .bf16⟩
  | .local _ .vmem, ⟨1, _⟩ => ⟨S512x256, .bf16⟩
  | .local _ .vmem, ⟨2, _⟩ => ⟨S256x256, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c256_i32 : BitVec 32 := 256#32
  let v10 : BitVec 32 := Scalar.muli v9 c256_i32
  let v11 : Index := Scalar.indexCast v10
  ![0, v11.toNat]
def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_6 : BitVec 32 := 8#32
  let v18 : BitVec 32 := Scalar.muli v9 c8_i32_6
  let v19 : BitVec 32 := Scalar.addi c0_i32 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v20 : BitVec 32 := Scalar.muli v5 c4_i32_7
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v22 : BitVec 32 := Scalar.muli v8 c1_i32_8
  let v23 : BitVec 32 := Scalar.addi v21 v22
  v23.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_10 : BitVec 32 := 256#32
  let v24 : BitVec 32 := Scalar.muli v2 c256_i32_10
  let c0_i32_15 : BitVec 32 := 0#32
  ![v24.toNat, 0]
def k0_dev2 (d0 : Dev nD) : Nat :=
  let c0_i32_12 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_11 : BitVec 32 := 8#32
  let v25 : BitVec 32 := Scalar.muli v9 c8_i32_11
  let v26 : BitVec 32 := Scalar.addi c0_i32_12 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v27 : BitVec 32 := Scalar.muli v5 c4_i32_13
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v29 : BitVec 32 := Scalar.muli v8 c1_i32_14
  let v30 : BitVec 32 := Scalar.addi v28 v29
  v30.toNat
def k0_off3 (d0 : Dev nD) : Fin 2 → Nat :=
  let c0_17 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_16 : BitVec 32 := 256#32
  let v32 : BitVec 32 := Scalar.muli v2 c256_i32_16
  let v33 : Index := Scalar.indexCast v32
  ![0, v33.toNat]
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_18 : BitVec 32 := 256#32
  let v36 : BitVec 32 := Scalar.muli v2 c256_i32_18
  let v37 : Index := Scalar.indexCast v36
  let c0_19 : Index := 0#32
  ![v37.toNat, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealSwap.Blocks.lean ====
/- The devices that exchange with each other, the two halves of the result buffer, and what each half holds in the
   end: which rows of which device's block of the argument, and which columns of them. Nothing here speaks of time:
   `Plan.lean` says who hands what to whom. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.Sem

variable {F : FTy → Type} [FloatOps F]

/-! ## The partner -/

/-- The device at the other coordinate of the first mesh axis, the other two coordinates the same. -/
def peer (c : Dev nD) : Dev nD := ⟨(c.val + 8) % 16, Nat.mod_lt _ (by decide)⟩

theorem peer_peer (c : Dev nD) : peer (peer c) = c := by revert c; decide
theorem peer_mod (c : Dev nD) : (peer c).val % 8 = c.val % 8 := by revert c; decide
theorem peer_div (c : Dev nD) : (peer c).val / 8 = 1 - c.val / 8 := by revert c; decide
theorem div_lt (c : Dev nD) : c.val / 8 < 2 := by revert c; decide

/-- The device the signal names, and the one the copy names, is the partner. -/
theorem signalled_eq (c : Dev nD) : (⟨k0_dev1 c, k0_dev1_lt c⟩ : Dev nD) = peer c := by
  apply Fin.ext; show k0_dev1 c = _; rw [k0_dev1_eq]; revert c; decide
theorem target_eq (c : Dev nD) : (⟨k0_dev2 c, k0_dev2_lt c⟩ : Dev nD) = peer c := by
  apply Fin.ext; show k0_dev2 c = _; rw [k0_dev2_eq]; revert c; decide

/-! ## The buffers and the rectangles -/

abbrev xM : Memref sig .tc .vmem S256x512 .bf16 := Memref.whole cc0_stg0_0
abbrev oM : Memref sig .tc .vmem S512x256 .bf16 := Memref.whole cc0_stg1_0
abbrev sM : Memref sig .tc .vmem S256x256 .bf16 := Memref.whole cc0_scratch0

/-- The rows of the result a copy from device `c` lands in, on whichever device; and the rows device `c` stores itself. -/
abbrev landRect (c : Dev nD) : Rect S512x256 := Rect.unit (s := S512x256) (k0_off2 c) S256x256.size (k0_off2_inb c)
abbrev ownRect (c : Dev nD) : Rect S512x256 := Rect.unit (s := S512x256) (k0_off4 c) S256x256.size (k0_off4_inb c)
/-- The columns of its block device `c` sends, and those it keeps. -/
abbrev sendRect (c : Dev nD) : Rect S256x512 := Rect.unit (s := S256x512) (k0_off1 c) S256x256.size (k0_off1_inb c)
abbrev keepRect (c : Dev nD) : Rect S256x512 := Rect.unit (s := S256x512) (k0_off3 c) S256x256.size (k0_off3_inb c)
abbrev allRect : Rect S256x256 := Rect.unit (s := S256x256) ![0, 0] S256x256.size inb_S256x256_S256x256_0_0

/-- The result buffer's rows that a copy from device `c` lands in, as the copy and the waits name them. -/
abbrev landM (c : Dev nD) : Memref sig .tc .vmem S256x256 .bf16 := oM.slice (landRect c) (fun _ => rfl)

/-- The half of the result whose rows are device `d`'s rows of the whole array. -/
def half (d : Dev nD) : Finset S512x256.Idx := Finset.univ.filter fun i => (i 0).val / 256 = d.val / 8

theorem mem_half {d : Dev nD} {i : S512x256.Idx} : i ∈ half d ↔ (i 0).val / 256 = d.val / 8 := by
  unfold half; rw [Finset.mem_filter]; exact and_iff_right (Finset.mem_univ _)

/-- A rectangle of 256 whole rows from row `256 * (d / 8)` on is device `d`'s half. -/
theorem rect_half (d : Dev nD) (off : Fin 2 → Nat) (inb : ∀ a, off a + S256x256.size a ≤ S512x256.size a)
    (h : off = ![256 * (d.val / 8), 0]) : (Rect.unit (s := S512x256) off S256x256.size inb).set = half d := by
  subst h
  ext i
  rw [Rect.mem_set_unit, mem_half, Fin.forall_fin_two]
  have h1 : (i 1).val < 256 := (i 1).isLt
  show (256 * (d.val / 8) ≤ (i 0).val ∧ (i 0).val < 256 * (d.val / 8) + 256) ∧ (0 ≤ (i 1).val ∧ (i 1).val < 0 + 256) ↔ _
  omega

theorem landRect_set (d : Dev nD) : (landRect d).set = half d := rect_half d _ _ (k0_off2_eq d)
theorem ownRect_set (d : Dev nD) : (ownRect d).set = half d := rect_half d _ _ (k0_off4_eq d)

theorem landM_set (d : Dev nD) : (landM d).view.set = half d :=
  (View.set_slice_whole cc0_stg1_0 (landRect d)).trans (landRect_set d)
theorem own_set (d : Dev nD) : (oM.access (ownRect d)).set = half d :=
  (View.set_slice_whole cc0_stg1_0 (ownRect d)).trans (ownRect_set d)

/-- A device's half and its partner's have no row in common, -/
theorem half_disjoint (c : Dev nD) : Disjoint (half c) (half (peer c)) :=
  Finset.disjoint_left.mpr fun i hi hj => by
    rw [mem_half] at hi hj; rw [peer_div] at hj; have := div_lt c; omega
/-- and together they are all rows. -/
theorem half_union (c : Dev nD) : half c ∪ half (peer c) = Finset.univ :=
  Finset.eq_univ_iff_forall.mpr fun i => by
    rw [Finset.mem_union, mem_half, mem_half, peer_div]
    have := div_lt c; have h0 : (i 0).val < 512 := (i 0).isLt; omega

/-! ## The contents -/

section Contents

variable (X : Dev nD → S256x512.Idx → Elt F .bf16)

/-- In a block of 256 rows, row `x 0` and column `x 1` of the 256 columns that are device `c`'s. -/
def colIx (c : Dev nD) (x : S256x256.Idx) : S256x512.Idx
  | ⟨0, _⟩ => ⟨(x 0).val, (x 0).isLt⟩
  | ⟨1, _⟩ => ⟨256 * (c.val / 8) + (x 1).val, by
      have h := div_lt c; have h1 : (x 1).val < 256 := (x 1).isLt
      show 256 * (c.val / 8) + (x 1).val < 512; omega⟩

/-- Of device `d`'s block, the columns that are device `c`'s. -/
def piece (d c : Dev nD) : S256x256.Idx → Elt F .bf16 := fun x => X d (colIx c x)

/-- The device whose block has row `r` of the whole array, the last two mesh coordinates `c`'s. -/
def owner (c : Dev nD) (i : S512x256.Idx) : Dev nD :=
  ⟨8 * ((i 0).val / 256) + c.val % 8, by
    have h0 : (i 0).val < 512 := (i 0).isLt
    show 8 * ((i 0).val / 256) + c.val % 8 < 16; omega⟩

/-- An index of the result at its row of the block that has it. -/
def rowIx (i : S512x256.Idx) : S256x256.Idx
  | ⟨0, _⟩ => ⟨(i 0).val % 256, Nat.mod_lt _ (by decide)⟩
  | ⟨1, _⟩ => ⟨(i 1).val, (i 1).isLt⟩

/-- The result on device `c`: every row of the whole array, at the columns that are `c`'s. -/
def outAt (c : Dev nD) : S512x256.Idx → Elt F .bf16 := fun i => piece X (owner c i) c (rowIx i)

omit [FloatOps F] in
/-- At rows of device `d`'s, the result on `c` is `c`'s columns of `d`'s block. -/
theorem outAt_emb (d c : Dev nD) (hdc : d.val % 8 = c.val % 8) (off : Fin 2 → Nat)
    (inb : ∀ a, off a + S256x256.size a ≤ S512x256.size a) (h : off = ![256 * (d.val / 8), 0]) (x : S256x256.Idx) :
    outAt X c ((Rect.unit (s := S512x256) off S256x256.size inb).emb x) = piece X d c x := by
  subst h
  have h0 : (x 0).val < 256 := (x 0).isLt
  have e0 : ((Rect.unit (s := S512x256) ![256 * (d.val / 8), 0] S256x256.size inb).emb x 0).val = 256 * (d.val / 8) + (x 0).val := by
    rw [Rect.emb_apply]; show 256 * (d.val / 8) + 1 * (x 0).val = _; omega
  have e1 : ((Rect.unit (s := S512x256) ![256 * (d.val / 8), 0] S256x256.size inb).emb x 1).val = (x 1).val := by
    rw [Rect.emb_apply]; show 0 + 1 * (x 1).val = _; omega
  have ho : owner c ((Rect.unit (s := S512x256) ![256 * (d.val / 8), 0] S256x256.size inb).emb x) = d := by
    apply Fin.ext; unfold owner; dsimp only; rw [e0]; omega
  have hr : rowIx ((Rect.unit (s := S512x256) ![256 * (d.val / 8), 0] S256x256.size inb).emb x) = x := by
    funext a
    match a with
    | ⟨0, _⟩ => apply Fin.ext; show _ % 256 = _; rw [e0]; show _ = (x 0).val; omega
    | ⟨1, _⟩ => apply Fin.ext; exact e1
  unfold outAt; rw [ho, hr]

/-- Reading 256 columns of a block from column `256 * (c / 8)` on reads device `c`'s columns of it. -/
theorem read_piece (d c : Dev nD) (off : Fin 2 → Nat) (inb : ∀ a, off a + S256x256.size a ≤ S256x512.size a)
    (h : off = ![0, 256 * (c.val / 8)]) :
    xM.view.readAt (Elt F) (Rect.unit (s := S256x512) off S256x256.size inb).toLoadRect (X d) = piece X d c := by
  subst h
  funext x
  show X d ((Rect.unit (s := S256x512) ![0, 256 * (c.val / 8)] S256x256.size inb).emb x) = X d (colIx c x)
  congr 1
  funext a
  match a with
  | ⟨0, _⟩ => apply Fin.ext; show 0 + 1 * (x 0).val = (x 0).val; omega
  | ⟨1, _⟩ => apply Fin.ext; show 256 * (c.val / 8) + 1 * (x 1).val = 256 * (c.val / 8) + (x 1).val; omega

/-- What device `c` reads to send is its partner's columns of its block, -/
theorem read_send (c : Dev nD) : k0_pay2 (xM.view.readAt (Elt F) (sendRect c).toLoadRect (X c)) = piece X c (peer c) := by
  have h : k0_off1 c = ![0, 256 * ((peer c).val / 8)] := by
    rw [k0_off1_eq, peer_div, show 256 * (1 - c.val / 8) = 256 - 256 * (c.val / 8) by omega]
  rw [read_piece X c (peer c) _ _ h]
  unfold k0_pay2; dsimp only; rw [shapeCast_self, shapeCast_self]
/-- and what it reads to keep, its own. -/
theorem read_keep (c : Dev nD) : k0_pay1 (xM.view.readAt (Elt F) (keepRect c).toLoadRect (X c)) = piece X c c := by
  rw [read_piece X c c _ _ (k0_off3_eq c)]
  unfold k0_pay1; dsimp only; rw [shapeCast_self]

omit [FloatOps F] in
/-- Writing into device `d`'s half of the result on `c` the columns of `d`'s block that are `c`'s leaves that half at
    its final contents, whatever it held. -/
theorem write_half (d c : Dev nD) (hdc : d.val % 8 = c.val % 8) (off : Fin 2 → Nat)
    (inb : ∀ a, off a + S256x256.size a ≤ S512x256.size a) (h : off = ![256 * (d.val / 8), 0]) (f : S512x256.Idx → Elt F .bf16) :
    ∀ i ∈ half d, ((View.whole cc0_stg1_0).slice (Rect.unit (s := S512x256) off S256x256.size inb)).write (Elt F) f (piece X d c) Finset.univ i = outAt X c i := by
  intro i hi
  rw [← rect_half d off inb h, ← View.set_slice_whole cc0_stg1_0] at hi
  obtain ⟨x, -, rfl⟩ := Finset.mem_map.mp hi
  rw [View.write_emb_of_mem _ _ (Finset.mem_univ x)]
  exact (outAt_emb X d c hdc off inb h x).symm

omit [FloatOps F] in
theorem write_land (c : Dev nD) (f : S512x256.Idx → Elt F .bf16) :
    ∀ i ∈ half c, (landM c).view.write (Elt F) f (piece X c (peer c)) Finset.univ i = outAt X (peer c) i :=
  write_half X c (peer c) (peer_mod c).symm _ _ (k0_off2_eq c) f
omit [FloatOps F] in
theorem write_own (c : Dev nD) (f : S512x256.Idx → Elt F .bf16) :
    ∀ i ∈ half c, (oM.access (ownRect c)).write (Elt F) f (piece X c c) Finset.univ i = outAt X c i :=
  write_half X c c rfl _ _ (k0_off4_eq c) f

end Contents

end Cert.KernelIdeal.Swap

end
-- ==== Proof.KernelIdealSwap.Plan.lean ====
/- Who hands what to whom. Each device has three semaphores that count: `ready` (the runtime's barrier semaphore), which its
   partner signals once; `sent`, credited when its own copy has left; `arrived`, credited when its partner's copy has
   landed. Each is waited on once, for everything it will ever get. Over contents `X c` of device `c`'s block of the
   argument. -/
module

public import proofs.«01_k».proof.Proof.KernelIdealSwap.Blocks
public import Idealize.ShloMosaic.Lib.Rounds

@[expose] public section

noncomputable section

namespace Cert.KernelIdeal.Swap

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The model: the pipeline's ghost state beside the exchange's -/

abbrev UX : Type := URounds (GSem nD τ sig) Unit
abbrev UU : Type := UR sig nD τ × UX

local notation "𝕄" => MT nD τ sig Unit (Elt F) ℕ UU ℕ

/-- Where the exchange's ghost state sits. -/
abbrev EX : Emb UX (MT nD τ sig Unit (Elt F) ℕ UU ℕ) := embR

/-! ## The semaphores -/

/-- The three semaphores of a device. -/
inductive Port | ready | sent | arrived
  deriving DecidableEq

namespace Port

instance : Fintype Port := ⟨{ready, sent, arrived}, fun p => by cases p <;> decide⟩

def sem : Port → SemLoc sig
  | ready => .reg (SemArray.scalar (sig.barrier 0 rfl) : Sems sig S_).sem
  | sent => .dma (cc0_scratch1 : DmaSems sig S_).sem
  | arrived => .dma (cc0_scratch2 : DmaSems sig S_).sem

/-- Which of the three a semaphore is, if any. -/
def of (s : SemLoc sig) : Option Port :=
  if s = sem ready then some ready else if s = sem sent then some sent else if s = sem arrived then some arrived else none

theorem of_sem (p : Port) : of p.sem = some p := by cases p <;> decide
theorem sem_inj : Function.Injective sem := fun p p' h => Option.some.inj (by rw [← of_sem p, h, of_sem])

end Port

/-- Semaphore `p` of device `c`. -/
abbrev cell (c : Dev nD) (p : Port) : GSem nD τ sig := ((c : Thread nD τ), p.sem)

theorem cell_inj {c c' : Dev nD} {p p' : Port} : cell c p = cell c' p' ↔ c = c' ∧ p = p' := by
  constructor
  · intro h
    exact ⟨congrArg (fun g : GSem nD τ sig => g.1.1) h, Port.sem_inj (congrArg Prod.snd h)⟩
  · rintro ⟨rfl, rfl⟩; rfl

/-- What one block's copy credits. -/
abbrev N : ℕ := (sM : Memref sig .tc .vmem S256x256 .bf16).view.dmaCredit
theorem N_pos : 0 < N := View.dmaCredit_pos _ (by decide)
/-- The rows it lands in are credited alike. -/
theorem N_land (c : Dev nD) : (landM c).view.dmaCredit = N := rfl

/-- What each semaphore gets in all. -/
def weight : Port → ℕ
  | .ready => 1
  | .sent => N
  | .arrived => N

theorem weight_pos (p : Port) : 0 < weight p := by cases p <;> first | exact N_pos | exact Nat.one_pos

/-! ## What is handed over -/

section Plan

variable (X : Dev nD → S256x512.Idx → Elt F .bf16)

/-- The send buffer of device `c`, whole, at contents `f`. -/
def outbox (c : Dev nD) (f : S256x256.Idx → Elt F .bf16) : sProp 𝕄 :=
  (sM : Memref sig .tc .vmem S256x256 .bf16).view.loc (c : Thread nD τ) ↦[(sM : Memref sig .tc .vmem S256x256 .bf16).view.set]{fullShare} f
/-- In the result buffer of device `c`, the rows that are device `d`'s, at contents `f`. -/
def region (c d : Dev nD) (f : S512x256.Idx → Elt F .bf16) : sProp 𝕄 :=
  (oM : Memref sig .tc .vmem S512x256 .bf16).view.loc (c : Thread nD τ) ↦[half d]{fullShare} f

omit [FloatOps F] in
instance outbox_storable (c : Dev nD) (f) : BI.Storable (upEmb : UEmb _ 𝕄) (outbox (F := F) c f) := by unfold outbox; infer_instance
omit [FloatOps F] in
instance region_storable (c d : Dev nD) (f) : BI.Storable (upEmb : UEmb _ 𝕄) (region (F := F) c d f) := by unfold region; infer_instance

omit [FloatOps F] in
theorem outbox_eq (c : Dev nD) (f : Buf (Elt F) ((c : Thread nD τ).loc cc0_scratch0)) :
    outbox c f = (((c : Thread nD τ).loc cc0_scratch0) ↦{fullShare} f : sProp 𝕄) := by
  unfold outbox; rw [show (sM : Memref sig .tc .vmem S256x256 .bf16).view.set = Finset.univ from View.set_whole _]

omit [FloatOps F] in
/-- The result buffer whole is its two halves. -/
theorem halves (c : Dev nD) (f : Buf (Elt F) ((c : Thread nD τ).loc cc0_stg1_0)) :
    (((c : Thread nD τ).loc cc0_stg1_0) ↦{fullShare} f : sProp 𝕄) ⊣⊢ iprop(region c c f ∗ region c (peer c) f) := by
  unfold region
  rw [← half_union c]
  exact pointsTo_union (half_disjoint c)

omit [FloatOps F] in
theorem region_congr (c d : Dev nD) {f g : S512x256.Idx → Elt F .bf16} (h : ∀ i ∈ half d, f i = g i) :
    (region c d f : sProp 𝕄) = region c d g := by
  unfold region; exact pointsTo_congr h

/-- What device `c` is handed at each of its semaphores: at `ready`, the rows of its partner's result that its copy will
    land in, and that the partner's `arrived` still expects it; at `sent`, its send buffer back; at `arrived`, the rows
    of its own result its partner's copy has filled. -/
def hand (c : Dev nD) : Port → sProp 𝕄
  | .ready => iprop((∃ f, region (peer c) c f) ∗ reached EX (cell (peer c) .arrived) 0)
  | .sent => outbox c (piece X c (peer c))
  | .arrived => region c (peer c) (outAt X c)

omit [FloatOps F] in
instance hand_storable (c : Dev nD) (p : Port) : BI.Storable (upEmb : UEmb _ 𝕄) (hand X c p) := by
  cases p <;> unfold hand <;> infer_instance

/-- One round: each of the three semaphores of each device gets its whole weight at once, with what it hands over. -/
def plan : Rounds.Schedule (GSem nD τ sig) Unit 𝕄 where
  duties g r := if r = 0 ∧ g.1.2 = .tc ∧ (Port.of g.2).isSome then {()} else ∅
  unitless _ := False
  amount g _ _ := match Port.of g.2 with
    | some p => weight p
    | none => 1
  payload g _ _ := match Port.of g.2 with
    | some p => hand X g.1.1 p
    | none => iprop(emp)
  amount_pos g _ _ _ := by split <;> first | exact weight_pos _ | exact Nat.one_pos

instance plan_storable (g : GSem nD τ sig) (r : ℕ) (d : Unit) : BI.Storable (upEmb : UEmb _ 𝕄) ((plan X).payload g r d) := by
  show BI.Storable upEmb (match Port.of g.2 with | some p => hand X g.1.1 p | none => iprop(emp))
  split <;> infer_instance

section At
variable (c : Dev nD) (p : Port)

omit [FloatOps F] in
theorem plan_duties : (plan X).duties (cell c p) 0 = {()} :=
  if_pos ⟨rfl, rfl, by show (Port.of p.sem).isSome; rw [Port.of_sem]; rfl⟩
omit [FloatOps F] in
theorem mem_duties : () ∈ (plan X).duties (cell c p) 0 := by rw [plan_duties]; exact Finset.mem_singleton_self _
omit [FloatOps F] in
theorem plan_over (g : GSem nD τ sig) : ∀ r, 1 ≤ r → (plan X).duties g r = ∅ :=
  fun r hr => if_neg fun h => by omega
omit [FloatOps F] in
theorem plan_amount : (plan X).amount (cell c p) 0 () = weight p := by
  show (match Port.of p.sem with | some p => weight p | none => 1) = _
  rw [Port.of_sem]
omit [FloatOps F] in
theorem plan_expect : (plan X).expect (cell c p) 0 = weight p := by
  unfold Schedule.expect Schedule.amountOf; rw [plan_duties, Finset.sum_singleton, plan_amount]
omit [FloatOps F] in
theorem plan_payload : (plan X).payload (cell c p) 0 () = hand X c p := by
  show (match Port.of p.sem with | some p => hand X c p | none => iprop(emp)) = _
  rw [Port.of_sem]
omit [FloatOps F] in
/-- All that a wait for the whole weight is handed. -/
theorem plan_rest : bigSep ((plan X).duties (cell c p) 0 \ ∅) (fun d => (plan X).payload (cell c p) 0 d) = hand X c p := by
  rw [Finset.sdiff_empty, plan_duties, bigSep_singleton]; exact plan_payload X c p

end At

end Plan

/-! ## What each device owes, and which waits are in order -/

/-- The copy's credit, to the partner's `arrived`. -/
def owedCopy (c : Dev nD) : CellTallies nD τ sig Unit := tallyAt (cell (peer c) .arrived) () (weight .arrived)
/-- At launch, that and the signal to the partner's `ready`. -/
def owed (c : Dev nD) : CellTallies nD τ sig Unit := owedCopy c + tallyAt (cell (peer c) .ready) () (weight .ready)

def marks (g : GSem nD τ sig) : Finset Unit := if g.1.2 = .tc then {()} else ∅
/-- `ready` below `arrived`, everything else below both. -/
def level (g : GSem nD τ sig) (_ : Unit) : ℕ := match Port.of g.2 with
  | some .ready => 1
  | some .arrived => 2
  | _ => 0

theorem marks_off (g : GSem nD τ sig) (h : g.1.2 ≠ .tc) : marks g = ∅ := if_neg h
theorem marks_on (c : Dev nD) (s : SemLoc sig) : () ∈ marks ((c : Thread nD τ), s) := by
  rw [show marks ((c : Thread nD τ), s) = {()} from if_pos rfl]; exact Finset.mem_singleton_self _

theorem level_cell (c : Dev nD) (p : Port) : level (cell c p) () = match p with | .ready => 1 | .sent => 0 | .arrived => 2 := by
  show (match Port.of p.sem with | some .ready => 1 | some .arrived => 2 | _ => 0) = _
  rw [Port.of_sem]; cases p <;> rfl

theorem owedCopy_pos {c : Dev nD} {g : GSem nD τ sig} {u : Unit} (h : 0 < owedCopy c g u) : g = cell (peer c) .arrived := by
  unfold owedCopy at h; rw [tallyAt_apply] at h
  by_contra hn; rw [if_neg fun h' => hn h'.1] at h; exact Nat.lt_irrefl 0 h
theorem owed_pos {c : Dev nD} {g : GSem nD τ sig} {u : Unit} (h : 0 < owed c g u) :
    g = cell (peer c) .arrived ∨ g = cell (peer c) .ready := by
  unfold owed at h; rw [Pi.add_apply, Finsupp.add_apply] at h
  rcases Nat.eq_zero_or_pos (owedCopy c g u) with h0 | h0
  · rw [h0, tallyAt_apply] at h
    by_contra hn; rw [if_neg fun h' => hn (.inr h'.1)] at h; exact Nat.lt_irrefl 0 h
  · exact .inl (owedCopy_pos h0)

omit [FloatOps F] in
/-- A wait on a semaphore of level `n` is in order while everything owed is to semaphores of device `d` of higher level. -/
theorem mayWait_below (c d : Dev nD) (s : SemLoc sig) (n : ℕ) (O : CellTallies nD τ sig Unit) (hs : level ((c : Thread nD τ), s) () ≤ n)
    (hO : ∀ g u, 0 < O g u → ∃ p, g = cell d p ∧ n < level (cell d p) ()) :
    (levAts marks level : sProp 𝕄) ⊢ MayWait (c : Thread nD τ) s () O :=
  MayOwe.of_cut (L := marks) (lev := level) n
    (fun q hq => by rw [Finset.mem_singleton.mp hq]; exact marks_on c s)
    (fun g u hg => by obtain ⟨p, rfl, -⟩ := hO g u hg; exact marks_on d p.sem)
    (fun q hq => by rw [Finset.mem_singleton.mp hq]; exact hs)
    (fun g u hg => by obtain ⟨p, rfl, h⟩ := hO g u hg; exact h)

omit [FloatOps F] in
/-- The wait for the partner's signal, the copy still owed. -/
theorem mayWait_ready (c : Dev nD) : (levAts marks level : sProp 𝕄) ⊢ MayWait (c : Thread nD τ) (Port.sem .ready) () (owedCopy c) :=
  mayWait_below c (peer c) _ 1 _ (le_of_eq (level_cell c .ready)) fun g u hg =>
    ⟨.arrived, owedCopy_pos hg, by rw [level_cell]; decide⟩

omit [FloatOps F] in
/-- The waits for the blocks themselves, before and after the exchange, on semaphores that are none of the three. -/
theorem mayWait_stage (c : Dev nD) (s : SemLoc sig) (hs : Port.of s = none) (O : CellTallies nD τ sig Unit) (hO : O = owed c ∨ O = 0) :
    (levAts marks level : sProp 𝕄) ⊢ MayWait (c : Thread nD τ) s () O := by
  rcases hO with rfl | rfl
  · refine mayWait_below c (peer c) s 0 _ (le_of_eq (by unfold level; rw [hs])) fun g u hg => ?_
    rcases owed_pos hg with h | h
    · exact ⟨_, h, by rw [level_cell]; decide⟩
    · exact ⟨_, h, by rw [level_cell]; decide⟩
  · rw [MayWait_zero]; iintro -; iempintro

end Cert.KernelIdeal.Swap

end
-- ==== Proof.KernelIdealSwap.Body.lean ====
/- One device's kernel, run from its part of the plan: it fills its send buffer, tells its partner that it may copy, waits
   to be told the same, copies, stores its own half, and waits until its copy has left and its partner's has landed. -/
module

public import proofs.«01_k».proof.Proof.KernelIdealSwap.Plan

@[expose] public section

noncomputable section

namespace Cert.KernelIdeal.Swap

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → S256x512.Idx → Elt F .bf16)

abbrev noVariants : Variants := Variants.none

/-! ## What a device starts from -/

/-- The device whose semaphore `p` device `c` pays. -/
def payee (c : Dev nD) : Port → Dev nD
  | .sent => c
  | _ => peer c

/-- What every device may know: that each semaphore of each device follows the plan, from its first round on. -/
def records (K : Dev nD × Port → ℕ) : sProp 𝕄 :=
  iprop((bigSep Finset.univ fun cp : Dev nD × Port => cellInv EX (plan X) (K cp) (cell cp.1 cp.2))
    ∗ bigSep Finset.univ fun cp : Dev nD × Port => reached EX (cell cp.1 cp.2) 0)

instance records_persistent (K : Dev nD × Port → ℕ) : BI.Persistent (records X K) := by unfold records; infer_instance

omit [FloatOps F] in
theorem inv_of (K : Dev nD × Port → ℕ) (c : Dev nD) (p : Port) : records X K ⊢ cellInv EX (plan X) (K (c, p)) (cell c p) := by
  unfold records
  exact sep_elim_left.trans (bigSep_elim (Φ := fun cp : Dev nD × Port => cellInv EX (plan X) (K cp) (cell cp.1 cp.2)) (Finset.mem_univ (c, p)))
omit [FloatOps F] in
theorem reached_of (K : Dev nD × Port → ℕ) (c : Dev nD) (p : Port) : records X K ⊢ reached EX (cell c p) 0 := by
  unfold records
  exact sep_elim_right.trans (bigSep_elim (Φ := fun cp : Dev nD × Port => (reached EX (cell cp.1 cp.2) 0 : sProp 𝕄)) (Finset.mem_univ (c, p)))

/-- What device `c` alone holds: where it stands at its own three semaphores, and the right to pay the three it pays. -/
def holds (c : Dev nD) : sProp 𝕄 :=
  iprop((bigSep Finset.univ fun p : Port => atPos EX (cell c p) 0 ∅ 0)
    ∗ bigSep Finset.univ fun p : Port => dutyTok EX (cell (payee c p) p) 0 ())

/-- The exchange's ghost state as device `c` starts. -/
def share (c : Dev nD) : sProp 𝕄 := iprop(∃ K, records X K ∗ holds c)

omit [FloatOps F] in
theorem bigSep_ports (Φ : Port → sProp 𝕄) : bigSep Finset.univ Φ = iprop(Φ .ready ∗ Φ .sent ∗ Φ .arrived) :=
  (bigSep_univ_eq_bigSepL [Port.ready, Port.sent, Port.arrived] (by decide) (by decide) Φ).trans rfl

/-- With the credit for the two semaphores the partner pays. -/
def start (c : Dev nD) : sProp 𝕄 :=
  iprop(share X c ∗ (cred (tallyAt (cell c .ready) () (weight .ready)) ∗ cred (tallyAt (cell c .arrived) () (weight .arrived))) ∗ levAts marks level)

/-- What the kernel leaves beside the result: the send buffer and the three semaphores at zero. -/
def leaves (c : Dev nD) : sProp 𝕄 :=
  iprop((∃ f, outbox c f) ∗ bigSep Finset.univ fun p : Port => semVal (cell c p) 0)

/-! ## The steps -/

theorem zero_off : (![0, 0] : Fin 2 → Nat) = fun _ => 0 := funext fun a => by fin_cases a <;> rfl

omit [FloatOps F] in
/-- A store to the whole send buffer leaves what was stored. -/
theorem fill_outbox (f w : S256x256.Idx → Elt F .bf16) :
    ((sM : Memref sig .tc .vmem S256x256 .bf16).access allRect : View sig .tc _ _ _).write (Elt F) f w Finset.univ = w :=
  Memref.write_access_unit_zero_univ (Elt F) cc0_scratch0 zero_off _ f w

/-- The copy of the send buffer into the partner's result, the partner given as the device `n` the program names. -/
theorem copy_step (K : Dev nD × Port → ℕ) (c n : Dev nD) (hn : n = peer c)
    {hsc : (landM c : Memref sig (Dev.tc n : Thread nD τ).2.kind .vmem S256x256 .bf16).view.ref.isScScratch = false}
    {hsrc : (sM : Memref sig .tc .vmem S256x256 .bf16).view.WordExact} {hdst : (landM c).view.WordExact}
    {hsem : DmaTarget.Typed .vmem (Port.sem .arrived) (.remote (Dev.tc n : Thread nD τ) (landM c) (Port.sem .sent) hsc)}
    {α : Type} {Q : α → sProp 𝕄} {k : PUnit → Prog (TpuEff nD τ sig (Elt F) Λ₀ .tc) α}
    (f : S512x256.Idx → Elt F .bf16) (W : Waits sig Unit) :
    iprop(records X K ∗ outbox c (piece X c (peer c)) ∗ region (peer c) c f ∗ owes (c : Thread nD τ) (owedCopy c) W
        ∗ dutyTok EX (cell c .sent) 0 () ∗ dutyTok EX (cell (peer c) .arrived) 0 ())
      ⊢ iprop(((cred (tallyAt (cell c .sent) () (weight .sent)) ∗ owes (c : Thread nD τ) 0 W)
            -∗ wp frame (wpE (defs₀ (F := F)) noVariants (c : Thread nD τ) none) Set.univ (k ⟨⟩) Q)
          -∗ wp frame (wpE (defs₀ (F := F)) noVariants (c : Thread nD τ) none) Set.univ
              (.op (.enqueueDma sM (.remote (Dev.tc n : Thread nD τ) (landM c) (Port.sem .sent) hsc) (Port.sem .arrived) hsrc hdst hsem) k) Q) := by
  subst hn
  iintro ⟨#HR, Hs, Hd, HO, HtS, HtA⟩
  have h1 : ((sM : Memref sig .tc .vmem S256x256 .bf16).view.loc (c : Thread nD τ) ↦[(sM : Memref sig .tc .vmem S256x256 .bf16).view.set]{fullShare} (piece X c (peer c)))
      ⊢ (plan X).payload ((c : Thread nD τ), Port.sem .sent) 0 () := Entails.of_eq (plan_payload X c .sent).symm
  have h2 : ((landM c).view.loc (peer c : Thread nD τ) ↦[(landM c).view.set]{fullShare}
        ((landM c).view.write (Elt F) f ((sM : Memref sig .tc .vmem S256x256 .bf16).view.read (Elt F) (piece X c (peer c))) Finset.univ))
      ⊢ (plan X).payload ((peer c : Thread nD τ), Port.sem .arrived) 0 () := by
    refine Entails.of_eq (Eq.trans ?_ (plan_payload X (peer c) .arrived).symm)
    show _ = region (peer c) (peer (peer c)) (outAt X (peer c))
    rw [peer_peer, landM_set]
    exact region_congr (peer c) c (write_land X c f)
  have h3 : owedCopy c = 0 + tallyAt ((peer c : Thread nD τ), Port.sem .arrived) () N := by rw [zero_add]; rfl
  iapply (Rounds.wp_send_pointsTo (defs := defs₀ (F := F)) noVariants EX (plan X) (c : Thread nD τ) none (κ₁ := K (c, .sent)) (κ₂ := K (peer c, .arrived))
    (c' := Dev.tc (peer c)) (src := sM) (dst := landM c) (hsc := hsc) (hsrc := hsrc) (hdst := hdst) (hsem := hsem) (k := k) (Q := Q)
    (fs := piece X c (peer c)) (fd := f) (mem_duties X c .sent) (mem_duties X (peer c) .arrived)
    () () N (N_land c) (plan_amount X c .sent) (plan_amount X (peer c) .arrived) 0 h3 (W := W) h1 h2 (Es := Set.univ)) $$ [Hs Hd HO HtS HtA]
  isplitr; · iapply (inv_of X K c .sent); iexact HR
  isplitr; · iapply (inv_of X K (peer c) .arrived); iexact HR
  isplitl [Hs]; · unfold outbox; iexact Hs
  isplitl [Hd]; · rw [landM_set]; unfold region; iexact Hd
  isplitl [HO]; · iexact HO
  isplitl [HtS]; · iexact HtS
  isplitr; · iapply (reached_of X K c .sent); iexact HR
  isplitl [HtA]; · iexact HtA
  iapply (reached_of X K (peer c) .arrived); iexact HR

/-- A wait `w` for the whole weight of semaphore `p`: the device is handed what the plan says, and stands past the only round. -/
theorem wait_step (K : Dev nD × Port → ℕ) (c : Dev nD) (p : Port) {w : TpuEff nD τ sig (Elt F) Λ₀ .tc PUnit} {n : ℕ}
    (hw : ∀ P : PUnit → sProp 𝕄, wpE (defs₀ (F := F)) noVariants (c : Thread nD τ) none Set.univ w P = waitSpec (c : Thread nD τ) Set.univ p.sem n P)
    (hn : n = weight p) {α : Type} {Q : α → sProp 𝕄} {k : PUnit → Prog (TpuEff nD τ sig (Elt F) Λ₀ .tc) α}
    (O : CellTallies nD τ sig Unit) (W : Waits sig Unit) :
    iprop(records X K ∗ cred (tallyAt (cell c p) () (weight p)) ∗ owes (c : Thread nD τ) O W ∗ MayWait (c : Thread nD τ) p.sem () O ∗ atPos EX (cell c p) 0 ∅ 0)
      ⊢ iprop(((owes (c : Thread nD τ) O (insert (p.sem, ()) W) ∗ atPos EX (cell c p) 1 ∅ 0 ∗ hand X c p)
            -∗ wp frame (wpE (defs₀ (F := F)) noVariants (c : Thread nD τ) none) Set.univ (k ⟨⟩) Q)
          -∗ wp frame (wpE (defs₀ (F := F)) noVariants (c : Thread nD τ) none) Set.univ (.op w k) Q) := by
  subst hn
  iintro ⟨#HR, Hc, HO, Hw, Hat⟩ Hk
  iapply (Rounds.wp_wait_rest_token noVariants EX (plan X) (c : Thread nD τ) none (κ := K (c, p)) hw (Set.mem_univ _) () (O := O) (W := W)
      (R := 0) (m := 0) (T := ∅) ((Nat.zero_add _).trans (plan_expect X c p).symm)) $$ [Hc HO Hw Hat]
  · isplitr; · iapply (inv_of X K c p); iexact HR
    isplitl [Hc]; · iexact Hc
    isplitl [HO]; · iexact HO
    isplitl [Hw]; · iexact Hw
    iexact Hat
  iintro ⟨HO, Hat, -, Hpay⟩
  ihave Hp := (Entails.of_eq (plan_rest X c p)) $$ Hpay
  iapply Hk
  isplitl [HO]; · iexact HO
  isplitl [Hat] <;> iassumption

omit [FloatOps F] in
/-- Past the only round, semaphore `p` is the device's own again, at zero. -/
theorem close_step (K : Dev nD × Port → ℕ) (c : Dev nD) (p : Port) :
    iprop(records X K ∗ atPos EX (cell c p) 1 ∅ 0) ⊢ (|={Set.univ}=> semVal (cell c p) 0 : sProp 𝕄) := by
  iintro ⟨#HR, Hat⟩
  iapply (Rounds.cell_close EX (plan X) (Set.mem_univ (K (c, p))) (fun h => h) (R := 1) (plan_over X (cell c p)))
  isplitr; · iapply (inv_of X K c p); iexact HR
  iexact Hat

/-- The block of the argument on device `c`, whole. -/
def block (c : Dev nD) : sProp 𝕄 := ((c : Thread nD τ).loc cc0_stg0_0) ↦{fullShare} X c
/-- The result buffer of device `c`, whole. -/
def result (c : Dev nD) (f : S512x256.Idx → Elt F .bf16) : sProp 𝕄 := ((c : Thread nD τ).loc cc0_stg1_0) ↦{fullShare} f

set_option maxHeartbeats 1000000 in
/-- The kernel on device `c`, from its share of the plan, its block, and a result and a send buffer at any contents, runs
    to the end with nothing owed: the result is every row of the whole array at `c`'s columns, the block is as it was, and
    the three semaphores are at zero. -/
theorem kernel_runs (c : Dev nD) (W : Waits sig Unit) (f0 : S256x256.Idx → Elt F .bf16) (f1 : S512x256.Idx → Elt F .bf16)
    (R : PUnit → sProp 𝕄) :
    iprop(start X c ∗ outbox c f0 ∗ owes (c : Thread nD τ) (owed c) W ∗ block X c ∗ result c f1
        ∗ ((leaves c ∗ (∃ W', owes (c : Thread nD τ) 0 W') ∗ block X c ∗ result c (outAt X c)) -∗ R ⟨⟩))
      ⊢ wp frame (wpE (defs₀ (F := F)) noVariants (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) R := by
  simp only [cc0_body_eq_skeleton, cc0_body_skel, k0_part1_eq_skeleton, k0_part1_skel]
  simp only [semSignalWord, semWaitWord, Prog.lift, Prog.bind_op, Prog.bind_ret, Prog.pure_eq_ret, wp_deviceId]
  unfold start share holds block result
  rw [bigSep_ports, bigSep_ports]
  iintro ⟨⟨⟨%K, #HR, ⟨HatR, HatS, HatA⟩, HtR, HtS, HtA⟩, ⟨HcR, HcA⟩, #Hlev⟩, Hs, HO, Hx, Ho, Hk⟩
  -- the send buffer is filled with the partner's columns
  iapply (wp_load noVariants (c : Thread nD τ) none Set.univ (m := xM) (Finset.subset_univ _)) $$ Hx; iintro Hx
  rw [read_send X c]
  unfold outbox
  iapply (wp_load noVariants (c : Thread nD τ) none Set.univ (m := sM) (by rw [View.set_whole]; exact Finset.subset_univ _)) $$ Hs; iintro Hs
  iapply (wp_store noVariants (c : Thread nD τ) none Set.univ (m := sM) (r := allRect) (Mk := Finset.univ)
    (by rw [View.set_whole]; exact Finset.subset_univ _)) $$ Hs; iintro Hs
  rw [fill_outbox]
  -- the partner is told that it may copy, and handed the rows it copies into
  ihave Ho := (halves c f1).1 $$ Ho
  icases Ho with ⟨Hmine, Htheirs⟩
  simp only [signalled_eq c]
  unfold owed
  iapply (Rounds.wp_signal noVariants EX (plan X) (c : Thread nD τ) none (dst := (peer c : Thread nD τ)) (κ := K (peer c, .ready))
      (mem_duties X (peer c) .ready) ((plan_amount X (peer c) .ready).trans (by decide)) () (owedCopy c) rfl) $$ [HO HtR Htheirs]
  · isplitr; · iapply (inv_of X K (peer c) .ready); iexact HR
    isplitl [HO]; · iexact HO
    isplitl [HtR]; · iexact HtR
    isplitl [Htheirs]
    · rw [show (plan X).payload ((peer c : Thread nD τ), SemLoc.reg _) 0 () = hand X (peer c) .ready from plan_payload X (peer c) .ready]
      unfold hand; rw [peer_peer]
      isplitl [Htheirs]; · iexists f1; iexact Htheirs
      iapply (reached_of X K c .arrived); iexact HR
    iapply (reached_of X K (peer c) .ready); iexact HR
  iintro HO
  -- it waits to be told the same, and is handed its rows of the partner's result
  iapply (wait_step X K c .ready (wpE_semWait_eq noVariants (c : Thread nD τ) none Set.univ) rfl (owedCopy c) W) $$ [HcR HO HatR]
  · isplitr; · iexact HR
    isplitl [HcR]; · iexact HcR
    isplitl [HO]; · iexact HO
    isplitr; · iapply (mayWait_ready c); iexact Hlev
    iexact HatR
  iintro ⟨HO, HatR, Hp⟩
  unfold hand
  icases Hp with ⟨⟨%fn, Hland⟩, -⟩
  -- the copy
  iapply (copy_step X K c _ (target_eq c) fn (insert (Port.sem .ready, ()) W)) $$ [Hs Hland HO HtS HtA]
  · isplitr; · iexact HR
    isplitl [Hs]; · unfold outbox; iexact Hs
    isplitl [Hland]; · iexact Hland
    isplitl [HO]; · iexact HO
    isplitl [HtS]; · iexact HtS
    iexact HtA
  iintro ⟨HcS, HO⟩
  -- its own columns of its own block, into its own rows
  iapply (wp_load noVariants (c : Thread nD τ) none Set.univ (m := xM) (Finset.subset_univ _)) $$ Hx; iintro Hx
  rw [read_keep X c]
  unfold region
  iapply (wp_load_rect noVariants (c : Thread nD τ) none Set.univ (m := oM) (r := ownRect c) (by rw [own_set])) $$ Hmine; iintro Hmine
  iapply (wp_store noVariants (c : Thread nD τ) none Set.univ (m := oM) (r := ownRect c) (Mk := Finset.univ)
    (by rw [View.setOn_univ, own_set])) $$ Hmine; iintro Hmine
  ihave Hmine := (Entails.of_eq (show ((View.loc (c : Thread nD τ) (oM.access (ownRect c)) ↦[half c]{fullShare}
      ((oM.access (ownRect c)).write (Elt F) f1 (piece X c c) Finset.univ) : sProp 𝕄)) = region c c (outAt X c)
      from region_congr c c (write_own X c f1))) $$ Hmine
  -- its copy has left: the send buffer is back
  iapply (wait_step X K c .sent (wpE_waitDma2_eq noVariants (c : Thread nD τ) none Set.univ) rfl 0 _) $$ [HcS HO HatS]
  · isplitr; · iexact HR
    isplitl [HcS]; · iexact HcS
    isplitl [HO]; · iexact HO
    isplitr; · rw [MayWait_zero]; iempintro
    iexact HatS
  iintro ⟨HO, HatS, Hs⟩
  -- its partner's has landed: the other half of the result is there
  iapply (wait_step X K c .arrived (wpE_waitDma2_eq noVariants (c : Thread nD τ) none Set.univ) (N_land c) 0 _) $$ [HcA HO HatA]
  · isplitr; · iexact HR
    isplitl [HcA]; · iexact HcA
    isplitl [HO]; · iexact HO
    isplitr; · rw [MayWait_zero]; iempintro
    iexact HatA
  iintro ⟨HO, HatA, Htheirs⟩
  unfold hand
  ihave Ho := (halves c (outAt X c)).2 $$ [Hmine Htheirs]
  · isplitl [Hmine] <;> iassumption
  imod (close_step X K c .ready) $$ [HatR] with HzR
  · isplitr; · iexact HR
    iexact HatR
  imod (close_step X K c .sent) $$ [HatS] with HzS
  · isplitr; · iexact HR
    iexact HatS
  imod (close_step X K c .arrived) $$ [HatA] with HzA
  · isplitr; · iexact HR
    iexact HatA
  rw [wp_ret]; imodintro
  iapply Hk
  unfold leaves; rw [bigSep_ports]
  isplitl [Hs HzR HzS HzA]
  · isplitl [Hs]; · iexists _; iexact Hs
    isplitl [HzR]; · iexact HzR
    isplitl [HzS] <;> iassumption
  isplitl [HO]; · iexists _; iexact HO
  isplitl [Hx] <;> iassumption

end Cert.KernelIdeal.Swap

end
-- ==== Proof.KernelIdealSwap.Launch.lean ====
/- The program: on each device the pipeline brings the block in, runs the kernel, and writes the result out. From any
   memory, every run ends, with the result array of each device at every row of the whole array and its own columns. -/
module

public import proofs.«01_k».proof.Proof.KernelIdealSwap.Body
public import proofs.«01_k».proof.Proof.Gen.KernelIdeal.Points
public import Idealize.ShloMosaic.Lib.Pipeline.CollectiveSegs

@[expose] public section

noncomputable section

namespace Cert.KernelIdeal.Swap

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s block of the argument, as launched. -/
def arg (c : Dev nD) : S256x512.Idx → Elt F .bf16 := m ((c : Thread nD τ).loc main_arg0)

/-! ## The pipeline around the kernel -/

/-- What the pipeline's buffers hold and the kernel is given and leaves, before and after its one point. -/
def data (_ : Fin 1) (c : Dev nD) : Dat τ (Elt F) Unit ℕ UU ℕ cfg0 c where
  A w := m ((cfg0.win w).arr.view.loc (c : Thread nD τ))
  after w _ := match w with
    | ⟨0, _⟩ => arg m c
    | ⟨1, _⟩ => outAt (arg m) c
  Φ t := match t with
    | ⟨0, _⟩ => iprop(start (arg m) c ∗ ∃ f, outbox c f)
    | ⟨_ + 1, _⟩ => leaves c
  q _ := fullShare
  owed t := match t with
    | ⟨0, _⟩ => owed c
    | ⟨_ + 1, _⟩ => 0

/-- The argument's window is the whole of its array, -/
theorem arg_window (f : main_arg0.ty.Contents (Elt F)) : (win0_0.blk (0 : Fin 1)).view.read (Elt F) f = f := by
  refine Memref.read_access_unit_zero (Elt F) main_arg0 (funext fun a => ?_) _ f
  fin_cases a <;> decide
/-- and the result's of its own. -/
theorem result_window (f : main_v1.ty.Contents (Elt F)) : (win0_1.blk (0 : Fin 1)).view.read (Elt F) f = f := by
  refine Memref.read_access_unit_zero (Elt F) main_v1 (funext fun a => ?_) _ f
  fin_cases a <;> decide

/-- The kernel finds its block staged. -/
theorem before_arg (c : Dev nD) (d) : (data m 0 c).before (0 : Fin 2) t0_0 d = arg m c := by
  unfold Dat.before
  rw [if_pos (fetch0_0 t0_0)]
  exact arg_window (F := F) _

omit [FloatOps F] in
/-- A staging buffer held whole, spelt as its contents. -/
theorem owns_stage (c : Dev nD) (b : Ref sig .tc) (Y : b.ty.Contents (Elt F)) :
    (owns (Ix := Unit) (Name := ℕ) (U := UU) (Lvl := ℕ) (c : Thread nD τ) (Memref.whole b) fullShare Y : sProp 𝕄)
      ⊣⊢ (((c : Thread nD τ).loc b) ↦{fullShare} Y) := by
  unfold owns
  simp only [Memref.view_whole, View.read_whole, View.set_whole]
  constructor
  · iintro ⟨%f, %hf, H⟩; subst hf; iexact H
  · iintro H; iexists Y
    isplitr; · ipureintro; rfl
    iexact H

/-- What the library asks of the kernel. -/
theorem obligation (c : Dev nD) : BodyObligation (data (F := F) m 0 c) (defs₀ (F := F)) noVariants () Set.univ := fun t => by
  rw [fin_N0 t, bigSep_W0, bigSep_W0]
  show iprop((start (arg m) c ∗ ∃ f, outbox c f) ∗ (data m 0 c).owesAt () t0_0.castSucc
      ∗ (∃ d, owns (c : Thread nD τ) xM fullShare ((data m 0 c).before (0 : Fin 2) t0_0 d))
      ∗ (∃ d, owns (c : Thread nD τ) oM fullShare ((data m 0 c).before (1 : Fin 2) t0_0 d)))
    ⊢ wp frame (wpE (defs₀ (F := F)) noVariants (c : Thread nD τ) none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2)
        fun _ => iprop(leaves c ∗ (data m 0 c).owesAt () t0_0.succ ∗ owns (c : Thread nD τ) xM fullShare (arg m c)
          ∗ owns (c : Thread nD τ) oM fullShare (outAt (arg m) c))
  unfold Dat.owesAt Pipeline.owesWithin
  iintro ⟨⟨Hst, ⟨%f0, Hs⟩⟩, ⟨%W, %hW, HO⟩, ⟨%d0, Hx⟩, ⟨%d1, Ho⟩⟩
  rw [before_arg]
  ihave Hx := (owns_stage c cc0_stg0_0 (arg m c)).1 $$ Hx
  ihave Ho := (owns_stage c cc0_stg1_0 _).1 $$ Ho
  iapply (kernel_runs (arg m) c W f0 _ _)
  unfold block result
  isplitl [Hst]; · iexact Hst
  isplitl [Hs]; · iexact Hs
  isplitl [HO]; · iexact HO
  isplitl [Hx]; · iexact Hx
  isplitl [Ho]; · iexact Ho
  iintro ⟨Hl, ⟨%W', HO⟩, Hx, Ho⟩
  isplitl [Hl]; · iexact Hl
  isplitl [HO]
  · iexists W'
    isplitr; · ipureintro; exact fun _ _ => Or.inl trivial
    iexact HO
  isplitl [Hx]
  · iapply (owns_stage c cc0_stg0_0 (arg m c)).2; iexact Hx
  iapply (owns_stage c cc0_stg1_0 (outAt (arg m) c)).2; iexact Ho

/-! ## Before the kernels: every device's semaphores follow the plan -/

/-- Of the three semaphores the two the kernel declares; the runtime's barrier semaphore is not its own. -/
abbrev declared : Fin 2 → SemLoc sig := fun | 0 => Port.sem .sent | 1 => Port.sem .arrived

theorem declaredFacts : Pipeline.OwnSemFacts cfg0.spec declared := by decide

theorem port_inj : Function.Injective fun cp : Dev nD × Port => cell cp.1 cp.2 :=
  fun a b h => Prod.ext (cell_inj.mp h).1 (cell_inj.mp h).2

def planCells : Finset (GSem nD τ sig) := Finset.univ.map ⟨_, port_inj⟩
def planToks : Finset (GSem nD τ sig × ℕ × Unit) :=
  Finset.univ.map ⟨fun cp : Dev nD × Port => (cell cp.1 cp.2, 0, ()), fun _ _ h => port_inj (congrArg Prod.fst h)⟩

/-- The ghost state the program starts from: the pipeline's and the plan's. -/
def ghost₀ : UU := (initOf (Pipeline.cells cfgs cellOf_inj) (Pipeline.launchToks cfgs cellOf_inj), initOf planCells planToks)

section Before
variable (X : Dev nD → S256x512.Idx → Elt F .bf16)

/-- What comes with semaphore `p` of device `c` beside its state: the place at its first round, the mark that it is
    reached, and the right to pay it. -/
def papers (c : Dev nD) (p : Port) : sProp 𝕄 :=
  iprop(atPos EX (cell c p) 0 ∅ 0 ∗ reached EX (cell c p) 0 ∗ dutyTok EX (cell c p) 0 ())

def dealt (c : Dev nD) : sProp 𝕄 := bigSep Finset.univ fun p : Port => iprop(roundState EX (plan X) (cell c p) 0 ∗ papers c p)

omit [FloatOps F] in
theorem deal_all : BI.own (EX (initOf planCells planToks)) ⊢ (|==> bigSep Finset.univ (dealt X) : sProp 𝕄) := by
  have hc (Φ : GSem nD τ sig → sProp 𝕄) : bigSep planCells Φ = bigSep Finset.univ fun c : Dev nD => bigSep Finset.univ fun p : Port => Φ (cell c p) := by
    unfold planCells; rw [bigSep_map, bigSep_univ_prod]; rfl
  have ht : bigSep planToks (fun x => (dutyTok EX x.1 x.2.1 x.2.2 : sProp 𝕄))
      = bigSep Finset.univ fun c : Dev nD => bigSep Finset.univ fun p : Port => dutyTok EX (cell c p) 0 () := by
    unfold planToks; rw [bigSep_map, bigSep_univ_prod]; rfl
  iintro H
  imod (Rounds.fund EX (plan X) planCells planToks) $$ H with ⟨Hst, Hr, Hat, Htok⟩
  imodintro
  ihave Hst := (Entails.of_eq (hc fun g => roundState EX (plan X) g 0)) $$ Hst
  ihave Hat := (Entails.of_eq (hc fun g => atPos EX g 0 ∅ 0)) $$ Hat
  ihave Hr := (Entails.of_eq (hc fun g => reached EX g 0)) $$ Hr
  ihave Htok := (Entails.of_eq ht) $$ Htok
  unfold dealt papers; simp only [bigSep_sep']
  isplitl [Hst]; · iexact Hst
  isplitl [Hat]; · iexact Hat
  isplitl [Hr]; · iexact Hr
  iexact Htok

omit [FloatOps F] in
/-- The declared semaphores and the runtime's are the three. -/
theorem declared_eq (c : Dev nD) : (Pipeline.ownSems0 (Ix := Unit) (Name := ℕ) (U := UU) (Lvl := ℕ) (Val := Elt F) (τ := τ) declared c : sProp 𝕄)
    = iprop(semVal (cell c .sent) 0 ∗ semVal (cell c .arrived) 0) := by
  rw [Pipeline.ownSems0_eq_of_list c declared [0, 1] (by decide) (by decide)]; rfl
omit [FloatOps F] in
theorem runtime_eq (c : Dev nD) : (unscopedSems0 c : sProp 𝕄) = semVal (cell c .ready) 0 := by
  unfold unscopedSems0; rw [bigSep_eq_bigSepL_of_eq [Port.sem .ready] (by decide) (by decide)]; rfl
omit [FloatOps F] in
theorem three_zeros (c : Dev nD) :
    (bigSep Finset.univ fun p : Port => (semVal (cell c p) 0 : sProp 𝕄))
      ⊣⊢ iprop(unscopedSems0 c ∗ Pipeline.ownSems0 (Ix := Unit) (Name := ℕ) (U := UU) (Lvl := ℕ) (Val := Elt F) (τ := τ) declared c) := by
  rw [declared_eq, runtime_eq, bigSep_ports]

omit [FloatOps F] in
/-- A semaphore at zero and its state make its invariant. -/
theorem open_port (c : Dev nD) (p : Port) :
    iprop(semVal (cell c p) 0 ∗ roundState EX (plan X) (cell c p) 0 ∗ papers c p)
      ⊢ (|={Set.univ}=> iprop((∃ κ : ℕ, cellInv EX (plan X) κ (cell c p)) ∗ papers c p) : sProp 𝕄) := by
  iintro ⟨Hv, Hst, Hp⟩
  imod ((Rounds.body_intro EX (plan X) (cell c p)).trans inv_alloc) $$ [Hv Hst] with Hinv
  · isplitl [Hv] <;> iassumption
  imodintro
  isplitl [Hinv] <;> iassumption

omit [FloatOps F] in
theorem open_device (c : Dev nD) :
    iprop(Pipeline.ownSems0 (Ix := Unit) (Name := ℕ) (U := UU) (Lvl := ℕ) (Val := Elt F) (τ := τ) declared c ∗ unscopedSems0 c ∗ dealt X c)
      ⊢ (|={Set.univ}=> bigSep Finset.univ fun p : Port => iprop((∃ κ : ℕ, cellInv EX (plan X) κ (cell c p)) ∗ papers c p) : sProp 𝕄) := by
  refine BIBase.Entails.trans ?_ ((bigSep_mono fun p _ => open_port X c p).trans (bigSep_fupd _ _))
  rw [bigSep_sep']
  iintro ⟨Ho, Hu, Hd⟩
  isplitl [Ho Hu]
  · iapply (three_zeros c).2
    isplitl [Hu] <;> iassumption
  unfold dealt; iexact Hd

/-- The rights to pay go to those who pay. -/
def redeal : Dev nD × Port ≃ Dev nD × Port where
  toFun cp := (payee cp.1 cp.2, cp.2)
  invFun cp := (payee cp.1 cp.2, cp.2)
  left_inv := by rintro ⟨c, p⟩; cases p <;> simp only [payee, peer_peer]
  right_inv := by rintro ⟨c, p⟩; cases p <;> simp only [payee, peer_peer]

omit [FloatOps F] in
/-- All devices' semaphores with their papers become each device's share. -/
theorem shares :
    (bigSep Finset.univ fun c : Dev nD => bigSep Finset.univ fun p : Port => iprop((∃ κ : ℕ, cellInv EX (plan X) κ (cell c p)) ∗ papers c p) : sProp 𝕄)
      ⊢ bigSep Finset.univ (share X) := by
  rw [← bigSep_univ_prod (fun cp : Dev nD × Port => iprop((∃ κ : ℕ, cellInv EX (plan X) κ (cell cp.1 cp.2)) ∗ papers cp.1 cp.2))]
  unfold papers; rw [bigSep_sep', bigSep_sep', bigSep_sep',
    bigSep_univ_equiv redeal (fun cp : Dev nD × Port => (dutyTok EX (cell cp.1 cp.2) 0 () : sProp 𝕄))]
  iintro ⟨HI, Hat, #HR, Htok⟩
  ihave HK := (BI.bigSep_exists_pi Finset.univ (fun (cp : Dev nD × Port) (κ : ℕ) => (cellInv EX (plan X) κ (cell cp.1 cp.2) : sProp 𝕄))) $$ HI
  icases HK with ⟨%K, #HI⟩
  have each : iprop(records X K ∗ bigSep Finset.univ fun c : Dev nD => holds c) ⊢ (bigSep Finset.univ (share X) : sProp 𝕄) := by
    refine (sep_mono_left (BI.bigSep_of_persistent (Finset.univ : Finset (Dev nD)) (records X K))).trans ?_
    rw [← bigSep_sep']
    refine bigSep_mono fun c _ => ?_
    show iprop(records X K ∗ holds c) ⊢ share X c
    unfold share
    iintro H; iexists K; iexact H
  iapply each
  isplitr
  · unfold records
    isplitl; · iexact HI
    iexact HR
  unfold holds
  rw [bigSep_sep']
  isplitl [Hat]
  · iapply (Entails.of_eq (bigSep_univ_prod fun cp : Dev nD × Port => (atPos EX (cell cp.1 cp.2) 0 ∅ 0 : sProp 𝕄))); iexact Hat
  iapply (Entails.of_eq (bigSep_univ_prod fun cp : Dev nD × Port => (dutyTok EX (cell (redeal cp).1 (redeal cp).2) 0 () : sProp 𝕄))); iexact Htok

omit [FloatOps F] in
/-- The step the devices take together. -/
theorem together :
    (bigSep Finset.univ fun c => iprop(Pipeline.ownSems0 (Ix := Unit) (Name := ℕ) (U := UU) (Lvl := ℕ) (Val := Elt F) (τ := τ) declared c ∗ unscopedSems0 c ∗ dealt X c) : sProp 𝕄)
      ⊢ |={Set.univ}=> bigSep Finset.univ (share X) :=
  ((bigSep_mono fun c _ => open_device X c).trans (bigSep_fupd _ _)).trans (BI.fupd_mono (shares X))

end Before

/-! ## The credit -/

theorem owed_at (d c : Dev nD) (p : Port) (hp : p ≠ .sent) : owed d (cell c p) () = if d = peer c then weight p else 0 := by
  have hd : c = peer d ↔ d = peer c := ⟨fun h => by rw [h, peer_peer], fun h => by rw [h, peer_peer]⟩
  unfold owed owedCopy
  rw [Pi.add_apply, Finsupp.add_apply, tallyAt_apply, tallyAt_apply]
  simp only [cell_inj, hd, and_true]
  cases p
  · rw [if_neg (fun h => by cases h.2), Nat.zero_add]; simp only [and_true]
  · exact absurd rfl hp
  · rw [if_neg (c := _ ∧ Port.arrived = Port.ready) (fun h => by cases h.2), Nat.add_zero]; simp only [and_true]

/-- The partner's debts are the device's credit. -/
theorem credit_at (c : Dev nD) (p : Port) (hp : p ≠ .sent) :
    tallyOn (cell c p) (launchCredit (Pipeline.owing owed) 0 (cell c p)) = (tallyAt (cell c p) () (weight p) : CellTallies nD τ sig Unit) := by
  unfold tallyAt; refine congrArg _ (Finsupp.ext fun u => ?_); cases u
  rw [Pipeline.launchCredit_owing, Finsupp.single_eq_same, Finset.sum_congr rfl fun d _ => owed_at d c p hp,
    Finset.sum_ite_eq' Finset.univ (peer c) fun _ => weight p, if_pos (Finset.mem_univ _)]

omit [FloatOps F] in
theorem credits (c : Dev nD) :
    (Pipeline.launchCred owed c : sProp 𝕄)
      ⊢ iprop(cred (tallyAt (cell c .ready) () (weight .ready)) ∗ cred (tallyAt (cell c .arrived) () (weight .arrived))) := by
  unfold Pipeline.launchCred
  rw [bigSep_univ_at _ (Port.sem .ready), credit_at c .ready (by decide), ← credit_at c .arrived (by decide)]
  exact sep_mono_right (bigSep_elim (Finset.mem_erase.mpr ⟨by decide, Finset.mem_univ _⟩))

/-! ## The run -/

omit [FloatOps F] in
/-- Each device starts its kernel with its share of the plan, the credit for what its partner owes it, and the levels. -/
theorem start_of (c : Dev nD) :
    iprop(Pipeline.unscopedRestP Pipeline.Prefetch.none cfg0.spec c (fun b => m ((c : Thread nD τ).loc b)) ∗ levAts marks level
        ∗ Pipeline.launchCred owed c ∗ prngReg c (ρ c) ∗ share (arg m) c)
      ⊢ |={Set.univ}=> iprop(start (arg m) c ∗ emp) := by
  iintro ⟨-, Hlev, Hcr, -, Hsh⟩
  ihave Hc := (credits (F := F) c) $$ Hcr
  imodintro
  unfold start
  isplitl
  · isplitl [Hsh]; · iexact Hsh
    isplitl [Hc] <;> iassumption
  iempintro

theorem enter (c : Dev nD) :
    iprop(start (arg m) c ∗ Pipeline.prefHeld Pipeline.Prefetch.none c (fun _ => fullShare.right) (fun k => k.elim0) ∗ Pipeline.scopedRest cfg0.spec c)
      ⊢ (data m 0 c).Φ 0 := by
  rw [show (data m 0 c).Φ 0 = iprop(start (arg m) c ∗ ∃ f, outbox c f) from rfl, scopedRest0_eq]
  iintro ⟨Hs, -, ⟨%f, Hr⟩⟩
  isplitl [Hs]; · iexact Hs
  iexists f; rw [outbox_eq]; iexact Hr

theorem leave (c : Dev nD) :
    (data m 0 c).Φ (Fin.last cfg0.N) ⊢ iprop(unscopedSems0 c ∗ Pipeline.ownSems0 declared c ∗ Pipeline.scopedRest cfg0.spec c) := by
  rw [show (data m 0 c).Φ (Fin.last cfg0.N) = leaves c from rfl, scopedRest0_eq]
  unfold leaves
  iintro ⟨⟨%f, Hr⟩, Hz⟩
  ihave Hz := (three_zeros (F := F) c).1 $$ Hz
  icases Hz with ⟨Hu, Ho⟩
  isplitl [Hu]; · iexact Hu
  isplitl [Ho]; · iexact Ho
  iexists f; rw [← outbox_eq]; iexact Hr

/-- The pipeline's own waits are in order whatever the kernel owes. -/
theorem pipeline_waits (c : Dev nD) : (levAts marks level : sProp 𝕄) ⊢ Pipeline.cellsWaits cfgs (data m) () 0 c :=
  Pipeline.cellsWaits_intro cfgs (data m) () 0 c fun w s t =>
    mayWait_stage c _ (by fin_cases w <;> fin_cases s <;> decide) _ (by
      rcases t with ⟨_ | _, ht⟩
      · exact Or.inl rfl
      · exact Or.inr rfl)

set_option maxRecDepth 8000 in
/-- From any memory with every semaphore at zero, every run of the program ends, with each window's array at what the
    pipeline's data say and every semaphore at zero again. -/
theorem runs : θ_run defs (onTc (τ := τ) (main (F := F))) ⟨m, fun _ => 0, ρ⟩ (fun r =>
    (∀ (c : Dev nD) (w : Fin cfg0.W), r.2.mem ((cfg0.win w).arr.view.loc (c : Thread nD τ)) = (data m 0 c).arrAt w cfg0.N)
      ∧ r.2.sem = fun _ => 0) :=
  Pipeline.θ_run_region_owing_glob_pf (fun p => (cfgs p).toPCfg) (fun p => (cfgs p).toPCfg_adm) (data m) () cellOf_inj (0 : Fin 1)
    winFacts0.to₀ declaredFacts (Pipeline.PreFacts.none _) embL defs₀ noVariants m ρ main
    (hmain := fun _ => rfl)
    (hbody := obligation m) (hne := block_pos0) (harr := arr_whole0) (hstage := stage_whole0)
    (hshare := fun c w => by unfold Dat.share; split <;> rfl)
    (hdistinct := winFacts0.arr_inj)
    (O₀ := owed) (howed₀ := fun _ => rfl) (howedN := fun _ => rfl)
    (L := marks) (lv := level) (hL := marks_off) (hwaits := pipeline_waits m)
    (G := dealt (arg m)) (G' := share (arg m)) (u₀ := ghost₀)
    (hu₀ := by
      unfold ghost₀
      iintro Hu
      ihave H := (ownU_pair _ _) $$ Hu
      icases H with ⟨HP, HX⟩
      imod (deal_all (arg m)) $$ HX with HG
      imodintro
      isplitl [HP] <;> iassumption)
    (hglob := together (arg m))
    (hA := fun _ _ => rfl) (hpf := fun _ k => k.elim0)
    (X := start (arg m)) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was, -/
theorem final_arg (c : Dev nD) : (data m 0 c).arrAt (0 : Fin 2) cfg0.N = m ((c : Thread nD τ).loc main_arg0) :=
  (data m 0 c).arrAt_in (0 : Fin 2) rfl _

/-- and the result's holds what the kernel left. -/
theorem final_result (c : Dev nD) : (data m 0 c).arrAt (1 : Fin 2) cfg0.N = outAt (arg m) c := by
  have h : ((cfg0.win (1 : Fin 2)).blk t0_0).view.read (Elt F) ((data m 0 c).arrAt (1 : Fin 2) (t0_0.val + 1)) = outAt (arg m) c := by
    rw [(data m 0 c).arrAt_succ (1 : Fin 2) t0_0, if_pos (flush0_1 t0_0)]
    exact View.read_write_univ _ _
  exact (result_window _).symm.trans h

/-- From any memory with every semaphore at zero, every run of the program ends with each device's result at every row of
    the whole array and that device's columns, each argument as it was, and every semaphore at zero. -/
theorem runs_out : θ_run defs (onTc (τ := τ) (main (F := F))) ⟨m, fun _ => 0, ρ⟩ (fun r =>
    (∀ c : Dev nD, r.2.mem ((c.tc : Thread nD τ).loc main_v1) = outAt (arg m) c
        ∧ r.2.mem ((c.tc : Thread nD τ).loc main_arg0) = m ((c.tc : Thread nD τ).loc main_arg0))
      ∧ r.2.sem = fun _ => 0) :=
  (θ_run defs _ _).mono (fun r h => ⟨fun c => ⟨(h.1 c 1).trans (final_result m c), (h.1 c 0).trans (final_arg m c)⟩, h.2⟩) (runs m ρ)

end Cert.KernelIdeal.Swap

end
-- ==== Proof.KernelIdealSwap.Whole.lean ====
/- What the devices hold, as blocks of one array: given the array's blocks of rows, the results are its blocks of columns. -/
module

public import proofs.«01_k».proof.Proof.KernelIdealSwap.Blocks
public import Idealize.ShloMosaic.Lib.Layout

@[expose] public section

noncomputable section

namespace Cert.KernelIdeal.Swap

open Cert.KernelIdeal Cert.KernelIdeal.Gen
open Idealize.ShloMosaic

/-- The array cut along its rows over the first mesh axis: device `c`'s block is the rows from `256 * (c / 8)` on. -/
theorem rows_lin (c : Dev nD) : Layout.meshLin [2, 2, 4] c.val [0] = c.val / 8 := by revert c; decide

variable {α : Type} (V : (⟨2, ![512, 512]⟩ : Shape).Idx → α)

/-- The entry device `c` holds at `i` of its result, found in the block of rows of the device that has it, is the entry of
    `c`'s block of columns of the whole array. -/
theorem columns_of_rows (c : Dev nD) (i : S512x256.Idx) :
    (Layout.blockN ⟨2, ![256, 512]⟩ ⟨2, ![512, 512]⟩ (Layout.meshBlock [2, 2, 4] ![[0], []] (owner c i)) V) (colIx c (rowIx i))
      = (Layout.blockN ⟨2, ![512, 256]⟩ ⟨2, ![512, 512]⟩ (Layout.meshBlock [2, 2, 4] ![[], [0]] c) V) i := by
  rw [Layout.blockN_apply, Layout.blockN_apply]
  congr 1
  funext a
  apply Fin.ext
  rw [Layout.TilesN.idx_val, Layout.TilesN.idx_val, Layout.meshBlock_val, Layout.meshBlock_val]
  match a with
  | ⟨0, _⟩ =>
    show Layout.meshLin [2, 2, 4] (owner c i).val [0] * 256 + (i 0).val % 256 = 0 * 512 + (i 0).val
    rw [rows_lin]
    show (8 * ((i 0).val / 256) + c.val % 8) / 8 * 256 + _ = _
    omega
  | ⟨1, _⟩ =>
    show 0 * 512 + (256 * (c.val / 8) + (i 1).val) = Layout.meshLin [2, 2, 4] c.val [0] * 256 + (i 1).val
    rw [rows_lin]; omega

/-- If each device's block of the argument is its block of rows of one array, each result is the device's block of
    columns of it. -/
theorem outAt_whole {F : FTy → Type} (X : Dev nD → S256x512.Idx → Elt F .bf16) (V : (⟨2, ![512, 512]⟩ : Shape).Idx → Elt F .bf16)
    (h : ∀ c : Dev nD, X c = Layout.blockN ⟨2, ![256, 512]⟩ ⟨2, ![512, 512]⟩ (Layout.meshBlock [2, 2, 4] ![[0], []] c) V) (c : Dev nD) :
    outAt X c = Layout.blockN ⟨2, ![512, 256]⟩ ⟨2, ![512, 512]⟩ (Layout.meshBlock [2, 2, 4] ![[], [0]] c) V := by
  funext i
  unfold outAt piece
  rw [h]
  exact columns_of_rows V c i

end Cert.KernelIdeal.Swap

end
-- ==== Proof.Reference.lean ====
/- The reference: the array itself, nothing done to it. -/
module

public import proofs.«01_k».proof.Proof.Gen.ReferenceIdeal
public import Idealize.ShloMosaic.Lib.StableHlo.Run
public import Idealize.ShloMosaic.Lib.Quiescent

@[expose] public section

noncomputable section

namespace Cert.ReferenceIdeal.Same

open Cert.ReferenceIdeal
open Idealize.ShloMosaic Idealize.ShloMosaic.TcCoe Idealize.ShloMosaic.StableHlo Idealize.SL.Sem

variable {F : FTy → Type} [FloatOps F]

theorem no_buffers : (Finset.univ.filter fun b : Ref sig .tc => b.isScoped) = ∅ := by decide
theorem no_sems : (Finset.univ.filter fun s : SemLoc sig => s.isScoped .tc) = ∅ := by decide

/-- Every run of the reference ends with the array as it was and every semaphore at zero. -/
theorem runs (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) :=
  (θ_run defs _ _).mono (fun r h => ⟨fun c => h c main_arg0, sem_eq_zero_of_no_sems (by decide) r.2⟩)
    (run_seq no_buffers no_sems defs main (fun _ => ([] : List (HloOp τ sig (Elt F)))) (fun _ => rfl) (fun _ => trivial) m ρ)

end Cert.ReferenceIdeal.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelSwap.Launch
public import proofs.«01_k».proof.Proof.KernelIdealSwap.Launch
public import proofs.«01_k».proof.Proof.KernelIdealSwap.Whole
public import proofs.«01_k».proof.Proof.Reference
public import Idealize.ShloMosaic.Adequacy
public import Idealize.ShloMosaic.Init

@[expose] public section

noncomputable section

namespace Cert.Proof

open Idealize.ShloMosaic Idealize.SL.Sem

/-- The compiled program ends on every run, its argument as it was and every semaphore at zero. -/
theorem kernel_quiescent : Cert.quiescent_Kernel (hKernel := Cert.Kernel.Gen.facts) := fun m g _ =>
  (θ_run Cert.Kernel.defs _ _).mono (fun _ h => ⟨fun c => (h.1 c).2, h.2⟩) (Cert.Kernel.Swap.runs_out m g)

/-- So does the program over ideal arithmetic. -/
theorem ideal_quiescent : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Swap.runs_out m g)

/-- And the reference. -/
theorem reference_quiescent : Cert.quiescent_ReferenceIdeal (hReferenceIdeal := Cert.ReferenceIdeal.Gen.facts) := fun m g _ =>
  Cert.ReferenceIdeal.Same.runs m g

/-- Where each device is given its block of rows of the reference's array, each result is its block of columns of what
    the reference returns: that array itself. -/
theorem same_array : Cert.algebraic_KernelIdeal_ReferenceIdeal
    (hKernelIdeal := Cert.KernelIdeal.Gen.facts) (hReferenceIdeal := Cert.ReferenceIdeal.Gen.facts) := fun m g m' g' _ hcut =>
  ⟨_,
    (θ_run Cert.KernelIdeal.defs _ _).mono
      (fun _ h c => ⟨(h.1 c).1.trans (Cert.KernelIdeal.Swap.outAt_whole _ _ hcut c), (h.1 c).2⟩) (Cert.KernelIdeal.Swap.runs_out m g),
    (θ_run Cert.ReferenceIdeal.defs _ _).mono (fun _ h => ⟨h.1 0, h.1 0⟩) (Cert.ReferenceIdeal.Same.runs m' g')⟩

theorem claim : Cert.Claim :=
  ⟨Cert.Kernel.Gen.facts, Cert.KernelIdeal.Gen.facts, Cert.ReferenceIdeal.Gen.facts,
    kernel_quiescent, ideal_quiescent, reference_quiescent, trivial, same_array⟩

end Cert.Proof

end
